-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v5) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReference : Cert.Reference.Facts) (hReferenceIdeal : Cert.ReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4x8192 : Shape := ⟨2, ![4, 8192]⟩
abbrev S8192x1024 : Shape := ⟨2, ![8192, 1024]⟩
abbrev S_ : Shape := ⟨0, ![]⟩

abbrev nBuf : Space → Nat
  | .hbm => 3
  | .vmem => 0
  | .smem => 0
  | _ => 0

abbrev bufTy : (tb : Table) → Fin (tcTables nBuf tb) → BufTy
  | .hbm, ⟨0, _⟩ => ⟨S4x8192, .i32⟩
  | .hbm, ⟨1, _⟩ => ⟨S8192x1024, .f32⟩
  | .hbm, ⟨2, _⟩ => ⟨S8192x1024, .f32⟩
  | _, _ => ⟨S4x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 1 → Bool
  | ⟨0, _⟩ => true
  | _ => false

abbrev sig : RefSig :=
  ofTc nBuf bufTy 0 1 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

abbrev grid0 : Pipeline.Grid := .none
-- ==== Reference.lean ====
abbrev S4x8192 : Shape := ⟨2, ![4, 8192]⟩
abbrev S8192x1024 : Shape := ⟨2, ![8192, 1024]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩

abbrev nBuf : Space → Nat
  | .hbm => 32
  | .vmem => 0
  | .smem => 0
  | _ => 0

abbrev bufTy : (tb : Table) → Fin (tcTables nBuf tb) → BufTy
  | .hbm, ⟨0, _⟩ => ⟨S4x8192, .i32⟩
  | .hbm, ⟨1, _⟩ => ⟨S8192x1024, .f32⟩
  | .hbm, ⟨2, _⟩ => ⟨S8192, .i32⟩
  | .hbm, ⟨3, _⟩ => ⟨S_, .i32⟩
  | .hbm, ⟨4, _⟩ => ⟨S8192, .i32⟩
  | .hbm, ⟨5, _⟩ => ⟨S8192, .i32⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S_, .i32⟩
  | .hbm, ⟨10, _⟩ => ⟨S8192, .i32⟩
  | .hbm, ⟨11, _⟩ => ⟨S8192, .i1⟩
  | .hbm, ⟨12, _⟩ => ⟨S_, .i32⟩
  | .hbm, ⟨13, _⟩ => ⟨S8192, .i32⟩
  | .hbm, ⟨14, _⟩ => ⟨S8192, .i32⟩
  | .hbm, ⟨15, _⟩ => ⟨S8192, .i32⟩
  | .hbm, ⟨16, _⟩ => ⟨S8192x1, .i32⟩
  | .hbm, ⟨17, _⟩ => ⟨S1, .i32⟩
  | .hbm, ⟨18, _⟩ => ⟨S_, .i32⟩
  | .hbm, ⟨19, _⟩ => ⟨S8192x1, .i32⟩
  | .hbm, ⟨20, _⟩ => ⟨S8192x1, .i1⟩
  | .hbm, ⟨21, _⟩ => ⟨S1x1, .i32⟩
  | .hbm, ⟨22, _⟩ => ⟨S8192x1, .i32⟩
  | .hbm, ⟨23, _⟩ => ⟨S8192x1, .i1⟩
  | .hbm, ⟨24, _⟩ => ⟨S8192x1, .i1⟩
  | .hbm, ⟨25, _⟩ => ⟨S_, .i1⟩
  | .hbm, ⟨26, _⟩ => ⟨S8192, .i1⟩
  | .hbm, ⟨27, _⟩ => ⟨S8192x1024, .f32⟩
  | .hbm, ⟨28, _⟩ => ⟨S8192x1024, .i1⟩
  | .hbm, ⟨29, _⟩ => ⟨S_, .f32⟩
  | .hbm, ⟨30, _⟩ => ⟨S8192x1024, .f32⟩
  | .hbm, ⟨31, _⟩ => ⟨S8192x1024, .f32⟩
  | _, _ => ⟨S4x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v5 : Ref sig .tc := ⟨.hbm, 31, rfl⟩

abbrev nD : Nat := 1
abbrev τ : Topo := Topo.v7x

variable {F : FTy → Type} [FloatOps F]
-- ==== Proof.Copy.lean ====
/-
  The kernel's run and its value, at any reading `F` of the floats. The kernel is one pallas_call without a grid and
  without a window: table and result stay in HBM, and the body is one transfer of the whole table into the result, on the
  call's own DMA semaphore, waited for at once. Here: the body's triple, the region's proof data, and the run: the result
  ends equal to the table, the arguments are as launched, and every semaphore counter is zero.
-/
module

public import proofs.«01_k».proof.Proof.Gen.Kernel.Frame
public import proofs.«01_k».proof.Proof.Gen.Kernel.Skeleton
public import Idealize.ShloMosaic.Lib.Pipeline.FrameValue
public import Idealize.ShloMosaic.Lib.Tactic
public import Idealize.ShloMosaic.Lib.Transfers

@[expose] public section

noncomputable section

namespace Cert.Proof.Copy

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The table, left in HBM, as the body is handed it. -/
abbrev tabM : Memref sig .tc .hbm S8192x1024 .f32 := Memref.whole main_arg1
/-- The result, left in HBM, as the body is handed it. -/
abbrev resM : Memref sig .tc .hbm S8192x1024 .f32 := Memref.whole main_v0

/-- A memref's buffer on core `c`, held whole at the contents `f`. -/
abbrev full (c : Dev nD) (M : Memref sig .tc .hbm S8192x1024 .f32) (f : Buf (Elt F) (M.view.loc (c : Thread nD τ))) : sProp 𝕄 :=
  M.view.loc (c : Thread nD τ) ↦{fullShare} f

/-- The call's own DMA semaphore. -/
abbrev cell : Fin 1 → SemLoc sig := fun _ => .dma 0

/-- The semaphore's counter on core `c` at zero. -/
abbrev idle (c : Dev nD) : sProp 𝕄 := semVal ((c : Thread nD τ), SemLoc.dma 0) 0

/-! ## The body -/

/-- From the table at `ft`, the result at anything and the semaphore at zero, the body returns with the table as it was,
    the result equal to the table, and the semaphore at zero again. -/
theorem body_copies (c : Dev nD) (ft : Buf (Elt F) (tabM.view.loc (c : Thread nD τ)))
    (fr : Buf (Elt F) (resM.view.loc (c : Thread nD τ))) (W : Waits sig Unit) (K : PUnit → sProp 𝕄) :
    iprop(full c tabM ft ∗ full c resM fr ∗ idle c ∗ owes (c : Thread nD τ) 0 W
        ∗ (iprop(full c tabM ft ∗ full c resM ft ∗ idle c ∗ ∃ W', owes (c : Thread nD τ) 0 W') -∗ K ⟨⟩))
      ⊢ wp frame (wpE (defs₀ (F := F)) Variants.none c none) Set.univ
          (cc0__copy_body tabM (Memref.isWhole_whole _) resM (Memref.isWhole_whole _) cc0_scratch0) K := by
  rw [cc0__copy_body_eq_skeleton]; unfold cc0__copy_body_skel
  iintro ⟨Ht, Hr, Hq, HO, Hk⟩
  sl_exec
  sl_step
  iapply Hk
  isplitl [Ht]; · iexact Ht
  isplitl [Hr]
  · rw [show View.write (Elt F) resM.view fr (body_copies.sl.dma0 c ft) Finset.univ = ft from View.write_whole_univ main_v0 fr _]
    iexact Hr
  isplitl [Hq]; · iexact Hq
  iexists _; iexact HO

/-! ## The region's proof data -/

/-- The buffer that the body only reads: the table. -/
def reads : Finset (Ref sig .tc) := {main_arg1}
/-- The buffer that the body writes: the result. -/
def writes : Finset (Ref sig .tc) := {main_v0}

/-- What the core's buffers hold at the end: as launched, the result equal to the table. -/
def G (c : Dev nD) : (b : Ref sig .tc) → Buf (Elt F) ((c : Thread nD τ).loc b) :=
  Function.update (V m c) main_v0 (m ((c : Thread nD τ).loc main_arg1))

/-- At the end the result holds the table. -/
theorem G_res (c : Dev nD) : G m c main_v0 = m ((c : Thread nD τ).loc main_arg1) := Function.update_self ..

/-- The body's invariant with the written buffer at the contents `W`: the semaphore at zero, the table as launched. -/
abbrev Inv (W : (c : Dev nD) → (b : Ref sig .tc) → Buf (Elt F) ((c : Thread nD τ).loc b)) (c : Dev nD) : sProp 𝕄 :=
  Pipeline.ΦDRG cell cfg0.spec reads writes (V m) W c

/-- The invariant, conjunct by conjunct. -/
theorem Inv_eq (W : (c : Dev nD) → (b : Ref sig .tc) → Buf (Elt F) ((c : Thread nD τ).loc b)) (c : Dev nD) :
    Inv m W c = iprop(BI.emp ∗ (∃ r, prngReg c r) ∗ idle c ∗ full c tabM (m ((c : Thread nD τ).loc main_arg1)) ∗ full c resM (W c main_v0)) := by
  unfold Inv reads writes
  rw [Pipeline.ΦDRG_eq, scopedRest0_eq, Pipeline.ownSems0_eq_of_list c cell [0] (by decide) (by decide), BI.bigSep_singleton,
    Pipeline.routed_singleton]
  rfl

/-- The proof data: no window; before the one point the result is as launched, after it the result is the table. -/
def dats (_ : Fin 1) (c : Dev nD) : Dat τ (Elt F) Unit ℕ (Pipeline.UD sig nD τ) ℕ cfg0 c where
  A w := w.elim0
  after w := w.elim0
  Φ t := if t.val = 0 then Inv m (V m) c else Inv m (G m) c
  q _ := fullShare
  owed _ := 0

/-- Before the one point, every buffer is as launched. -/
theorem Phi_first (c : Dev nD) (t : Fin cfg0.N) : (dats m 0 c).Φ t.castSucc = Inv m (V m) c := by
  obtain rfl := fin_N0 t
  show (if (t0_0.castSucc).val = 0 then Inv m (V m) c else Inv m (G m) c) = _
  exact if_pos rfl

/-- After the one point, the result is the table. -/
theorem Phi_after (c : Dev nD) (t : Fin cfg0.N) : (dats m 0 c).Φ t.succ = Inv m (G m) c := by
  show (if (t.succ).val = 0 then Inv m (V m) c else Inv m (G m) c) = _
  exact if_neg (Nat.succ_ne_zero t.val)

/-- At the end of the region, the result is the table. -/
theorem Phi_last (c : Dev nD) : (dats m 0 c).Φ (Fin.last cfg0.N) = Inv m (G m) c := by
  show (if (Fin.last cfg0.N).val = 0 then Inv m (V m) c else Inv m (G m) c) = _
  exact if_neg (by show ¬ grid0.N = 0; rw [N_0]; exact Nat.one_ne_zero)

/-- The body table's row at the point is the body on the two arrays. -/
theorem defs₀_row (t : Fin cfg0.N) : defs₀ (F := F) .tc cfg0.body (cfg0.bodyArgs t (cfg0.slots t)) = bodyAt0 t := by
  unfold defs₀; rw [Defs.onTc_tc]

/-- The body takes the invariant before the point to the invariant after it. -/
theorem body_obligation (c : Dev nD) : BodyObligation (dats m 0 c) (defs₀ (F := F)) Variants.none () Set.univ := fun t => by
  have : IsEmpty (Fin cfg0.W) := inferInstanceAs (IsEmpty (Fin 0))
  rw [Finset.univ_eq_empty, bigSep_empty, bigSep_empty, defs₀_row, Phi_first, Phi_after, Inv_eq, Inv_eq, G_res]
  unfold Dat.owesAt Pipeline.owesWithin
  rw [show (dats m 0 c).owed t.castSucc = 0 from rfl, show (dats m 0 c).owed t.succ = 0 from rfl]
  unfold bodyAt0
  iintro ⟨⟨-, Hg, Hq, Ht, Hr⟩, ⟨%W, %hW, HO⟩, -⟩
  iapply (body_copies c _ _ W _)
  isplitl [Ht]; · iexact Ht
  isplitl [Hr]; · iexact Hr
  isplitl [Hq]; · iexact Hq
  isplitl [HO]; · iexact HO
  iintro ⟨Ht, Hr, Hq, ⟨%W', HO⟩⟩
  isplitr [HO]
  · isplitr; · iempintro
    isplitl [Hg]; · iexact Hg
    isplitl [Hq]; · iexact Hq
    isplitl [Ht]; · iexact Ht
    iexact Hr
  isplitl [HO]
  · iexists W'; isplitr; · ipureintro; exact fun _ _ => Or.inl trivial
    iexact HO
  iempintro

/-! ## The run -/

/-- @main up to the region (it is the region alone), at the algebra the body's transfer is run in. -/
theorem hmain' : Pipeline.HMain (Ix := Unit) (Name := ℕ) (U := Pipeline.UD sig nD τ) (Lvl := ℕ) cfgs 0 defs₀ Variants.none m (main (F := F)) (V m) :=
  Pipeline.hmain_region cfgs 0 defs₀ Variants.none m main fun c => (main_chain c).trans rfl

/-- The transfer's semaphore is the call's own. -/
theorem cell_own : Pipeline.OwnSemFacts cfg0.spec cell := by decide
/-- The table is staged by no window. -/
theorem reads_sub : reads ⊆ Pipeline.restRefs sig cfg0.spec := by decide
/-- The result is staged by no window, and is not the table. -/
theorem writes_sub : writes ⊆ Pipeline.restRefs sig cfg0.spec \ reads := by decide

-- the launch theorem's implicit arguments are found only when unification may unfold plain definitions
set_option backward.isDefEq.respectTransparency.types false in
/-- The launch: every buffer but the result ends as launched, the result at `G`, every semaphore counter at zero. -/
theorem run_region : θ_run defs (onTc (τ := τ) (main (F := F))) (s₀ m ρ)
    (fun r => Pipeline.FramePostRG cfgs (dats m) 0 writes (V m) (G m) r ∧ r.2.sem = fun _ => 0) :=
  Pipeline.θ_run_frame_dmaRG (Q' := _) cfgs (dats m) (0 : Fin 1) launch0 cell defs₀ Variants.none cell_own reads writes reads_sub writes_sub m ρ main
    (hbody := fun c => (body_obligation m c).loose) (hshare := fun _ w => w.elim0) (howed := fun _ _ => rfl)
    (V := V m) (hmain := hmain' m) (hA := fun _ w => w.elim0) (G := G m)
    (hin := fun _ => .rfl) (hout := fun c => Entails.of_eq (Phi_last m c))

/-- The kernel's run, at any reading of the floats: it terminates without fault, its result is the table, element for
    element, both arguments are as launched, and every semaphore counter is zero. -/
theorem run : θ_run defs (onTc (τ := τ) (main (F := F))) ⟨m, fun _ => 0, ρ⟩ (fun r => (∀ c : Dev nD,
      r.2.mem ((c : Thread nD τ).loc main_v0) = m ((c : Thread nD τ).loc main_arg1)
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0) := by
  refine (θ_run defs _ _).mono (fun r h => ⟨fun c => ⟨?_, ?_, ?_⟩, h.2⟩) (run_region m ρ)
  · exact (h.1.written c (by decide)).trans (G_res m c)
  · exact (h.1.1 c).2 main_arg0 (by decide)
  · exact (h.1.1 c).2 main_arg1 (by decide)

end Cert.Proof.Copy

end
-- ==== Proof.Lookup.lean ====
/-
  The reference's value, at any reading `F` of the floats: `jnp.take` of the table at the positions 0, 1, …, 8191 is the
  table. Position `i` is the word `i`, which is not negative and at most 8191: so the wrap of negative positions does
  nothing, the mask of positions in range is all ones, no element is filled, and the gather reads row `i`.
-/
module

public import proofs.«01_k».proof.Proof.Gen.Reference.Run
public import Idealize.ShloMosaic.Lib.ReduceAll
public import Idealize.ShloMosaic.Lib.ValueIdxCore

@[expose] public section

noncomputable section

namespace Cert.Proof.Lookup

open Cert.Reference Cert.Reference.Gen
open Idealize.ShloMosaic Idealize.ShloMosaic.TcCoe Idealize.ShloMosaic.ValueIdx Idealize.SL.Sem

variable {F : FTy → Type} [FloatOps F]

/-! ## The positions -/

/-- `jnp.arange(0, 8192, 1)`, as it is printed: 0 + 1 · iota. -/
def arange : IVec S8192 32 :=
  addi (broadcastInDim S8192 ![] bcast_S_S8192 (constantI S_ 32 0#32))
    (muli (broadcastInDim S8192 ![] bcast_S_S8192 (constantI S_ 32 1#32)) (iotaInDim S8192 32 0))

/-- The positions with the length added where they are negative, as a column of start indices. -/
def starts : IVec S8192x1 32 :=
  broadcastInDim S8192x1 ![0] bcast_S8192_S8192x1_0
    (select (cmpi .slt arange (broadcastInDim S8192 ![] bcast_S_S8192 (constantI S_ 32 0#32)))
      (addi arange (broadcastInDim S8192 ![] bcast_S_S8192 (constantI S_ 32 8192#32))) arange)

/-- Which start indices lie in [0, 8191]. -/
def inRange : IVec S8192x1 1 :=
  andi (cmpi .sge starts (broadcastInDim S8192x1 ![] bcast_S_S8192x1 (constantI S_ 32 0#32)))
    (cmpi .sle starts (broadcastInDim S8192x1 ![0, 1] bcast_S1x1_S8192x1_0_1 (broadcastInDim S1x1 ![1] bcast_S1_S1x1_1 (constantI S1 32 8191#32))))

/-- The rows taken, with the not-a-number of the fill where the position is out of range. -/
def taken (x : S8192x1024.Idx → Elt F .f32) : S8192x1024.Idx → Elt F .f32 :=
  select (broadcastInDim S8192x1024 ![0] bcast_S8192_S8192x1024_0 (Host.reduce IntOp.andi inRange (constantI S_ 1 1#1) reducesTo_S8192x1_S8192_d1 h_S_))
    (Host.gather gather_S8192x1024_S8192x1_S8192x1024_1_0_n_n_0_1_11024 x starts)
    (broadcastInDim S8192x1024 ![] bcast_S_S8192x1024 (constant S_ .f32 0x7FC00000#32))

/-- Position `i` is the word `i`. -/
theorem arange_apply (i : S8192.Idx) : arange i = BitVec.ofNat 32 (i 0).val := by
  show 0#32 + 1#32 * BitVec.ofNat 32 (i 0).val = _
  rw [BitVec.one_mul, BitVec.zero_add]

/-- A word below 8192, read signed, is itself. -/
theorem toInt_small {n : Nat} (h : n < 8192) : (BitVec.ofNat 32 n).toInt = n := by
  have hn : (BitVec.ofNat 32 n).toNat = n := by rw [BitVec.toNat_ofNat]; omega
  rw [BitVec.toInt_eq_toNat_cond, hn, if_pos (by omega)]

/-- The start index of row `i` is the word `i`: no position is negative. -/
theorem starts_apply (j : S8192x1.Idx) : starts j = BitVec.ofNat 32 (j 0).val := by
  have hj : (j 0).val < 8192 := (j 0).isLt
  -- the index of the vector of positions that the column's index `j` reads
  obtain ⟨i, hi, e⟩ : ∃ i : S8192.Idx, (i 0).val = (j 0).val ∧ starts j
      = Scalar.select (IntOp.cmpi .slt (arange i) 0#32) (IntOp.addi (arange i) 8192#32) (arange i) :=
    ⟨_, rfl, rfl⟩
  rw [e, arange_apply, hi]
  have hlt : IntOp.cmpi .slt (BitVec.ofNat 32 (j 0).val) 0#32 = 0#1 := by
    show BitVec.ofBool (BitVec.slt _ _) = _
    rw [BitVec.slt, toInt_small hj, decide_eq_false (by simp)]
    rfl
  rw [hlt]
  rfl

/-- Every start index lies in range. -/
theorem inRange_apply (j : S8192x1.Idx) : inRange j = 1#1 := by
  have hj : (j 0).val < 8192 := (j 0).isLt
  show IntOp.andi (IntOp.cmpi .sge (starts j) 0#32) (IntOp.cmpi .sle (starts j) 8191#32) = 1#1
  rw [starts_apply]
  have hge : IntOp.cmpi .sge (BitVec.ofNat 32 (j 0).val) 0#32 = 1#1 := by
    show BitVec.ofBool (BitVec.sle _ _) = _
    rw [BitVec.sle, toInt_small hj, decide_eq_true (by simp)]
    rfl
  have hle : IntOp.cmpi .sle (BitVec.ofNat 32 (j 0).val) 8191#32 = 1#1 := by
    show BitVec.ofBool (BitVec.sle _ _) = _
    rw [BitVec.sle, toInt_small hj, toInt_small (n := 8191) (by omega), decide_eq_true (by omega)]
    rfl
  rw [hge, hle]
  rfl

/-! ## The gather -/

/-- The gather of whole rows reads, at `(i, k)`, column `k` of the row that start index `i` names. -/
theorem gather_rows (x : S8192x1024.Idx → Elt F .f32) (j : S8192x1024.Idx) :
    Host.gather gather_S8192x1024_S8192x1_S8192x1024_1_0_n_n_0_1_11024 x starts j = x j := by
  unfold Host.gather
  congr 1
  funext a
  refine Fin.ext ?_
  have hj : (j 0).val < 8192 := (j 0).isLt
  generalize hd : gather_S8192x1024_S8192x1_S8192x1024_1_0_n_n_0_1_11024 = d
  show d.start j starts a + d.batchCoord j a + d.offCoord j a = (j a).val
  subst hd
  rw [GatherDims.batchCoord_eq_zero _ _ _ (List.not_mem_nil)]
  have h01 : a = 0 ∨ a = 1 := by
    match a with
    | ⟨0, _⟩ => exact Or.inl rfl
    | ⟨1, _⟩ => exact Or.inr rfl
  rcases h01 with rfl | rfl
  · rw [GatherDims.offCoord_eq_zero _ _ _ (by decide)]
    unfold GatherDims.start
    rw [dif_pos (by decide), starts_apply]
    show min (BitVec.ofNat 32 (j 0).val).toInt.toNat (8192 - 1) + 0 + 0 = (j 0).val
    rw [toInt_small hj, Int.toNat_natCast]
    omega
  · unfold GatherDims.start GatherDims.offCoord
    rw [dif_neg (by decide), dif_pos (by decide)]
    show 0 + 0 + (j 1).val = (j 1).val
    omega

/-- A mask of rows that is all ones selects everything. -/
theorem select_rows (k : IVec S8192 1) (hk : ∀ i, k i = 1#1) (y u : S8192x1024.Idx → Elt F .f32) :
    select (broadcastInDim S8192x1024 ![0] bcast_S8192_S8192x1024_0 k) y u = y := by
  funext j
  -- element `j` is decided by row `i` of the mask
  obtain ⟨i, e⟩ : ∃ i : S8192.Idx, select (broadcastInDim S8192x1024 ![0] bcast_S8192_S8192x1024_0 k) y u j
      = Scalar.select (k i) (y j) (u j) := ⟨_, rfl⟩
  rw [e, hk]
  exact if_pos rfl

/-- Taking the rows at the positions 0, …, 8191 gives the table back. -/
theorem taken_eq (x : S8192x1024.Idx → Elt F .f32) : taken x = x := by
  have hk := fun i => Host.reduce_andi_one inRange (constantI S_ 1 1#1) reducesTo_S8192x1_S8192_d1 h_S_ i rfl inRange_apply
  unfold taken
  rw [select_rows _ hk]
  funext j
  exact gather_rows x j

/-- The reference's run, at any reading of the floats: it terminates without fault, its result is the table, both arguments
    are as launched, and every semaphore counter is zero. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v5) = m ((c.tc : Thread nD τ).loc main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (taken_eq _), (h c).2⟩) (Cert.Reference.Value.run m ρ)

end Cert.Proof.Lookup

end
-- ==== Proof.lean ====
/-
  The certificate's claim, from the two runs: the kernel leaves the table in its result (Proof/Copy.lean), and so does the
  reference (Proof/Lookup.lean), both at any reading of the floats. The idealized programs are the same texts under other
  names, read over the extended reals.
-/
module

public import proofs.«01_k».proof.Defs
public import proofs.«01_k».proof.Proof.Gen.KernelIdeal
public import proofs.«01_k».proof.Proof.Gen.Kernel
public import proofs.«01_k».proof.Proof.Gen.Reference
public import proofs.«01_k».proof.Proof.Gen.ReferenceIdeal
public import proofs.«01_k».proof.Proof.Copy
public import proofs.«01_k».proof.Proof.Lookup
public import Idealize.ShloMosaic.Adequacy
public import Idealize.ShloMosaic.Init

@[expose] public section

noncomputable section

namespace Cert.Proof

open Idealize.ShloMosaic Idealize.ShloMosaic.TcCoe Idealize.SL.Sem

/-- The kernel's run ends quiescent, its arguments as launched. -/
theorem quiescent_kernel : Cert.quiescent_Kernel := fun m g _ =>
  (θ_run Cert.Kernel.defs _ _).mono (fun _ h => ⟨fun c => (h.1 c).2, h.2⟩) (Copy.run (F := Bits) m g)

/-- The idealized kernel's run: the kernel's, over the extended reals. -/
theorem run_kernelIdeal (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => (∀ c : Dev Cert.KernelIdeal.nD,
        r.2.mem ((c.tc : Thread Cert.KernelIdeal.nD Cert.KernelIdeal.τ).loc Cert.KernelIdeal.main_v0) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  Copy.run (F := Ideal) m g

/-- The idealized kernel's run ends quiescent, its arguments as launched. -/
theorem quiescent_kernelIdeal : Cert.quiescent_KernelIdeal := fun m g _ =>
  (θ_run Cert.KernelIdeal.defs _ _).mono (fun _ h => ⟨fun c => (h.1 c).2, h.2⟩) (run_kernelIdeal m g)

/-- The idealized reference's run: the reference's, over the extended reals. -/
theorem run_referenceIdeal (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v5) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  Lookup.run (F := Ideal) m g

/-- The reference's run ends quiescent (it has no semaphore), its arguments as launched. -/
theorem quiescent_reference : Cert.quiescent_Reference := fun m g _ =>
  (θ_run Cert.Reference.defs _ _).mono (fun r h => ⟨fun c => (h c).2, sem_eq_zero_of_no_sems (by decide) r.2⟩) (Lookup.run (F := Bits) m g)

/-- The idealized reference's run ends quiescent (it has no semaphore), its arguments as launched. -/
theorem quiescent_referenceIdeal : Cert.quiescent_ReferenceIdeal := fun m g _ =>
  (θ_run Cert.ReferenceIdeal.defs _ _).mono (fun r h => ⟨fun c => (h c).2, sem_eq_zero_of_no_sems (by decide) r.2⟩) (run_referenceIdeal m g)

/-- Over the extended reals both programs end with the table as their result. -/
theorem algebraic : Cert.algebraic_KernelIdeal_ReferenceIdeal := fun m g m' g' _ hag =>
  ⟨fun c => m ((c.tc : Thread Cert.KernelIdeal.nD Cert.KernelIdeal.τ).loc Cert.KernelIdeal.main_arg1),
    (θ_run Cert.KernelIdeal.defs _ _).mono (fun _ h c => h.1 c) (run_kernelIdeal m g),
    (θ_run Cert.ReferenceIdeal.defs _ _).mono (fun _ h c => ⟨(h c).1.trans (hag c).2, (h c).2⟩) (run_referenceIdeal m' g')⟩

/-- On the machine's floats both programs end with the table as their result, bit for bit. -/
theorem bitexact : Cert.bitexact_Kernel_Reference := fun m g m' g' _ hag =>
  ⟨fun c => m ((c.tc : Thread Cert.Kernel.nD Cert.Kernel.τ).loc Cert.Kernel.main_arg1),
    (θ_run Cert.Kernel.defs _ _).mono (fun _ h c => h.1 c) (Copy.run (F := Bits) m g),
    (θ_run Cert.Reference.defs _ _).mono (fun _ h c => ⟨(h c).1.trans (hag c).2, (h c).2⟩) (Lookup.run (F := Bits) m' g')⟩

/-- Everything the certificate claims. -/
theorem claim : Cert.Claim :=
  ⟨Cert.Kernel.Gen.facts, Cert.KernelIdeal.Gen.facts, Cert.Reference.Gen.facts, Cert.ReferenceIdeal.Gen.facts,
    quiescent_kernel, quiescent_kernelIdeal, quiescent_reference, quiescent_referenceIdeal, trivial, algebraic, bitexact⟩

end Cert.Proof

end
